-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_in_range [hPre_codes_in_range : Cert.Pre_codes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_codes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_in_range [hPre_codes_in_range : Cert.Pre_codes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_codes_in_range [hKernelIdeal : Cert.KernelIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_codes_in_range [hReferenceIdeal : Cert.ReferenceIdeal.Facts] [hPre_codes_in_range : Cert.Pre_codes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_codes_in_range [hKernelIdeal : Cert.KernelIdeal.Facts] [hReferenceIdeal : Cert.ReferenceIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_codes_in_range : Cert.Pre_codes_in_range.Facts),
    quiescent_Kernel (hKernel := hKernel)
    ∧ quiescent_KernelIdeal (hKernelIdeal := hKernelIdeal)
    ∧ quiescent_KernelIdeal_pre_codes_in_range (hKernelIdeal := hKernelIdeal) (hPre_codes_in_range := hPre_codes_in_range)
    ∧ quiescent_ReferenceIdeal (hReferenceIdeal := hReferenceIdeal)
    ∧ quiescent_ReferenceIdeal_pre_codes_in_range (hReferenceIdeal := hReferenceIdeal) (hPre_codes_in_range := hPre_codes_in_range)
    ∧ preserves_Kernel_KernelIdeal
    ∧ algebraic_KernelIdeal_ReferenceIdeal_pre_codes_in_range (hKernelIdeal := hKernelIdeal) (hReferenceIdeal := hReferenceIdeal) (hPre_codes_in_range := hPre_codes_in_range)
-- ==== Pre_codes_in_range.lean ====
abbrev S6x16384 : Shape := ⟨2, ![6, 16384]⟩
abbrev S16384x8 : Shape := ⟨2, ![16384, 8]⟩
abbrev S16384x32 : Shape := ⟨2, ![16384, 32]⟩
abbrev S10x4 : Shape := ⟨2, ![10, 4]⟩
abbrev S901x5 : Shape := ⟨2, ![901, 5]⟩
abbrev S100x4 : Shape := ⟨2, ![100, 4]⟩
abbrev S20x5 : Shape := ⟨2, ![20, 5]⟩
abbrev S10x26 : Shape := ⟨2, ![10, 26]⟩
abbrev S10 : Shape := ⟨1, ![10]⟩
abbrev S8x8 : Shape := ⟨2, ![8, 8]⟩
abbrev S8 : Shape := ⟨1, ![8]⟩
abbrev S32x8 : Shape := ⟨2, ![32, 8]⟩
abbrev S32 : Shape := ⟨1, ![32]⟩
abbrev S32x106 : Shape := ⟨2, ![32, 106]⟩
abbrev S2x32 : Shape := ⟨2, ![2, 32]⟩
abbrev S2 : Shape := ⟨1, ![2]⟩
abbrev S_ : Shape := ⟨0, ![]⟩

class Facts : Prop where
  bcast_S_S6x16384 : S_.BroadcastsInDim S6x16384 (![] : Fin 0 → Fin S6x16384.rank)

variable [Facts]

def fn {F : FTy → Type} [FloatOps F] (main_arg0 : IVec S6x16384 32) (main_arg1 : FVec F S16384x8 .f32) (main_arg2 : FVec F S16384x32 .f32) (main_arg3 : FVec F S16384x32 .f32) (main_arg4 : FVec F S10x4 .f32) (main_arg5 : FVec F S901x5 .f32) (main_arg6 : FVec F S10x4 .f32) (main_arg7 : FVec F S10x4 .f32) (main_arg8 : FVec F S100x4 .f32) (main_arg9 : FVec F S20x5 .f32) (main_arg10 : FVec F S10x26 .f32) (main_arg11 : FVec F S10 .f32) (main_arg12 : FVec F S8x8 .f32) (main_arg13 : FVec F S8 .f32) (main_arg14 : FVec F S32x8 .f32) (main_arg15 : FVec F S32 .f32) (main_arg16 : FVec F S32x106 .f32) (main_arg17 : FVec F S32 .f32) (main_arg18 : FVec F S2x32 .f32) (main_arg19 : FVec F S2 .f32) : IVec S6x16384 1 :=
  let main_c : IVec S_ 32 := constantI S_ 32 0#32
  let main_v0 : IVec S6x16384 32 := broadcastInDim S6x16384 ![] bcast_S_S6x16384 main_c
  let main_v1 : IVec S6x16384 1 := cmpi .sge main_arg0 main_v0
  let main_c_0 : IVec S_ 32 := constantI S_ 32 10#32
  let main_v2 : IVec S6x16384 32 := broadcastInDim S6x16384 ![] bcast_S_S6x16384 main_c_0
  let main_v3 : IVec S6x16384 1 := cmpi .slt main_arg0 main_v2
  let main_v4 : IVec S6x16384 1 := andi main_v1 main_v3
  main_v4
-- ==== Kernel.lean ====
abbrev S6x16384 : Shape := ⟨2, ![6, 16384]⟩
abbrev S16384x8 : Shape := ⟨2, ![16384, 8]⟩
abbrev S16384x32 : Shape := ⟨2, ![16384, 32]⟩
abbrev S10x4 : Shape := ⟨2, ![10, 4]⟩
abbrev S901x5 : Shape := ⟨2, ![901, 5]⟩
abbrev S100x4 : Shape := ⟨2, ![100, 4]⟩
abbrev S20x5 : Shape := ⟨2, ![20, 5]⟩
abbrev S10x26 : Shape := ⟨2, ![10, 26]⟩
abbrev S10 : Shape := ⟨1, ![10]⟩
abbrev S8x8 : Shape := ⟨2, ![8, 8]⟩
abbrev S8 : Shape := ⟨1, ![8]⟩
abbrev S32x8 : Shape := ⟨2, ![32, 8]⟩
abbrev S32 : Shape := ⟨1, ![32]⟩
abbrev S32x106 : Shape := ⟨2, ![32, 106]⟩
abbrev S2x32 : Shape := ⟨2, ![2, 32]⟩
abbrev S2 : Shape := ⟨1, ![2]⟩
abbrev S10x1 : Shape := ⟨2, ![10, 1]⟩
abbrev S8x1 : Shape := ⟨2, ![8, 1]⟩
abbrev S32x1 : Shape := ⟨2, ![32, 1]⟩
abbrev S1x32 : Shape := ⟨2, ![1, 32]⟩
abbrev S1x2 : Shape := ⟨2, ![1, 2]⟩
abbrev S16384x2 : Shape := ⟨2, ![16384, 2]⟩
abbrev S6x4096 : Shape := ⟨2, ![6, 4096]⟩
abbrev S4096x8 : Shape := ⟨2, ![4096, 8]⟩
abbrev S4096x32 : Shape := ⟨2, ![4096, 32]⟩
abbrev S4096x2 : Shape := ⟨2, ![4096, 2]⟩
abbrev S60x4096 : Shape := ⟨2, ![60, 4096]⟩
abbrev S1x4096 : Shape := ⟨2, ![1, 4096]⟩
abbrev S10x5 : Shape := ⟨2, ![10, 5]⟩
abbrev S10x22 : Shape := ⟨2, ![10, 22]⟩
abbrev S10x17 : Shape := ⟨2, ![10, 17]⟩
abbrev S10x9 : Shape := ⟨2, ![10, 9]⟩
abbrev S10x13 : Shape := ⟨2, ![10, 13]⟩
abbrev S10x21 : Shape := ⟨2, ![10, 21]⟩
abbrev S60x26 : Shape := ⟨2, ![60, 26]⟩
abbrev S10x60 : Shape := ⟨2, ![10, 60]⟩
abbrev S10x4096 : Shape := ⟨2, ![10, 4096]⟩
abbrev S8x4096 : Shape := ⟨2, ![8, 4096]⟩
abbrev S32x4096 : Shape := ⟨2, ![32, 4096]⟩
abbrev S32x32 : Shape := ⟨2, ![32, 32]⟩
abbrev S32x10 : Shape := ⟨2, ![32, 10]⟩

abbrev nBuf : Space → Nat
  | .hbm => 26
  | .vmem => 26
  | .smem => 0
  | _ => 0

abbrev bufTy : (tb : Table) → Fin (tcTables nBuf tb) → BufTy
  | .hbm, ⟨0, _⟩ => ⟨S6x16384, .i32⟩
  | .hbm, ⟨1, _⟩ => ⟨S16384x8, .f32⟩
  | .hbm, ⟨2, _⟩ => ⟨S16384x32, .f32⟩
  | .hbm, ⟨3, _⟩ => ⟨S16384x32, .f32⟩
  | .hbm, ⟨4, _⟩ => ⟨S10x4, .f32⟩
  | .hbm, ⟨5, _⟩ => ⟨S901x5, .f32⟩
  | .hbm, ⟨6, _⟩ => ⟨S10x4, .f32⟩
  | .hbm, ⟨7, _⟩ => ⟨S10x4, .f32⟩
  | .hbm, ⟨8, _⟩ => ⟨S100x4, .f32⟩
  | .hbm, ⟨9, _⟩ => ⟨S20x5, .f32⟩
  | .hbm, ⟨10, _⟩ => ⟨S10x26, .f32⟩
  | .hbm, ⟨11, _⟩ => ⟨S10, .f32⟩
  | .hbm, ⟨12, _⟩ => ⟨S8x8, .f32⟩
  | .hbm, ⟨13, _⟩ => ⟨S8, .f32⟩
  | .hbm, ⟨14, _⟩ => ⟨S32x8, .f32⟩
  | .hbm, ⟨15, _⟩ => ⟨S32, .f32⟩
  | .hbm, ⟨16, _⟩ => ⟨S32x106, .f32⟩
  | .hbm, ⟨17, _⟩ => ⟨S32, .f32⟩
  | .hbm, ⟨18, _⟩ => ⟨S2x32, .f32⟩
  | .hbm, ⟨19, _⟩ => ⟨S2, .f32⟩
  | .hbm, ⟨20, _⟩ => ⟨S10x1, .f32⟩
  | .hbm, ⟨21, _⟩ => ⟨S8x1, .f32⟩
  | .hbm, ⟨22, _⟩ => ⟨S32x1, .f32⟩
  | .hbm, ⟨23, _⟩ => ⟨S1x32, .f32⟩
  | .hbm, ⟨24, _⟩ => ⟨S1x2, .f32⟩
  | .hbm, ⟨25, _⟩ => ⟨S16384x2, .f32⟩
  | .local _ .vmem, ⟨0, _⟩ => ⟨S6x4096, .i32⟩
  | .local _ .vmem, ⟨1, _⟩ => ⟨S6x4096, .i32⟩
  | .local _ .vmem, ⟨2, _⟩ => ⟨S4096x8, .f32⟩
  | .local _ .vmem, ⟨3, _⟩ => ⟨S4096x8, .f32⟩
  | .local _ .vmem, ⟨4, _⟩ => ⟨S4096x32, .f32⟩
  | .local _ .vmem, ⟨5, _⟩ => ⟨S4096x32, .f32⟩
  | .local _ .vmem, ⟨6, _⟩ => ⟨S4096x32, .f32⟩
  | .local _ .vmem, ⟨7, _⟩ => ⟨S4096x32, .f32⟩
  | .local _ .vmem, ⟨8, _⟩ => ⟨S10x4, .f32⟩
  | .local _ .vmem, ⟨9, _⟩ => ⟨S901x5, .f32⟩
  | .local _ .vmem, ⟨10, _⟩ => ⟨S10x4, .f32⟩
  | .local _ .vmem, ⟨11, _⟩ => ⟨S10x4, .f32⟩
  | .local _ .vmem, ⟨12, _⟩ => ⟨S100x4, .f32⟩
  | .local _ .vmem, ⟨13, _⟩ => ⟨S20x5, .f32⟩
  | .local _ .vmem, ⟨14, _⟩ => ⟨S10x26, .f32⟩
  | .local _ .vmem, ⟨15, _⟩ => ⟨S10x1, .f32⟩
  | .local _ .vmem, ⟨16, _⟩ => ⟨S8x8, .f32⟩
  | .local _ .vmem, ⟨17, _⟩ => ⟨S8x1, .f32⟩
  | .local _ .vmem, ⟨18, _⟩ => ⟨S32x8, .f32⟩
  | .local _ .vmem, ⟨19, _⟩ => ⟨S32x1, .f32⟩
  | .local _ .vmem, ⟨20, _⟩ => ⟨S32x106, .f32⟩
  | .local _ .vmem, ⟨21, _⟩ => ⟨S1x32, .f32⟩
  | .local _ .vmem, ⟨22, _⟩ => ⟨S2x32, .f32⟩
  | .local _ .vmem, ⟨23, _⟩ => ⟨S1x2, .f32⟩
  | .local _ .vmem, ⟨24, _⟩ => ⟨S4096x2, .f32⟩
  | .local _ .vmem, ⟨25, _⟩ => ⟨S4096x2, .f32⟩
  | _, _ => ⟨S6x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg20_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S10x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S901x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S100x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S20x5 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S10x26 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S10x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x106 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x2 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S4096x2 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceIdeal.lean ====
abbrev S6x16384 : Shape := ⟨2, ![6, 16384]⟩
abbrev S16384x8 : Shape := ⟨2, ![16384, 8]⟩
abbrev S16384x32 : Shape := ⟨2, ![16384, 32]⟩
abbrev S10x4 : Shape := ⟨2, ![10, 4]⟩
abbrev S901x5 : Shape := ⟨2, ![901, 5]⟩
abbrev S100x4 : Shape := ⟨2, ![100, 4]⟩
abbrev S20x5 : Shape := ⟨2, ![20, 5]⟩
abbrev S10x26 : Shape := ⟨2, ![10, 26]⟩
abbrev S10 : Shape := ⟨1, ![10]⟩
abbrev S8x8 : Shape := ⟨2, ![8, 8]⟩
abbrev S8 : Shape := ⟨1, ![8]⟩
abbrev S32x8 : Shape := ⟨2, ![32, 8]⟩
abbrev S32 : Shape := ⟨1, ![32]⟩
abbrev S32x106 : Shape := ⟨2, ![32, 106]⟩
abbrev S2x32 : Shape := ⟨2, ![2, 32]⟩
abbrev S2 : Shape := ⟨1, ![2]⟩
abbrev S1x16384 : Shape := ⟨2, ![1, 16384]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x4 : Shape := ⟨2, ![16384, 4]⟩
abbrev S16384x5 : Shape := ⟨2, ![16384, 5]⟩
abbrev S16384x26 : Shape := ⟨2, ![16384, 26]⟩
abbrev S26x10 : Shape := ⟨2, ![26, 10]⟩
abbrev S16384x10 : Shape := ⟨2, ![16384, 10]⟩
abbrev S1x10 : Shape := ⟨2, ![1, 10]⟩
abbrev S1x8 : Shape := ⟨2, ![1, 8]⟩
abbrev S8x32 : Shape := ⟨2, ![8, 32]⟩
abbrev S1x32 : Shape := ⟨2, ![1, 32]⟩
abbrev S16384x106 : Shape := ⟨2, ![16384, 106]⟩
abbrev S106x32 : Shape := ⟨2, ![106, 32]⟩
abbrev S32x2 : Shape := ⟨2, ![32, 2]⟩
abbrev S16384x2 : Shape := ⟨2, ![16384, 2]⟩
abbrev S1x2 : Shape := ⟨2, ![1, 2]⟩

abbrev nBuf : Space → Nat
  | .hbm => 214
  | .vmem => 0
  | .smem => 0
  | _ => 0

abbrev hbmTy0_0 (i : Nat) : BufTy := match i % 128 with
  | 0 => ⟨S6x16384, .i32⟩
  | 1 => ⟨S16384x8, .f32⟩
  | 2 => ⟨S16384x32, .f32⟩
  | 3 => ⟨S16384x32, .f32⟩
  | 4 => ⟨S10x4, .f32⟩
  | 5 => ⟨S901x5, .f32⟩
  | 6 => ⟨S10x4, .f32⟩
  | 7 => ⟨S10x4, .f32⟩
  | 8 => ⟨S100x4, .f32⟩
  | 9 => ⟨S20x5, .f32⟩
  | 10 => ⟨S10x26, .f32⟩
  | 11 => ⟨S10, .f32⟩
  | 12 => ⟨S8x8, .f32⟩
  | 13 => ⟨S8, .f32⟩
  | 14 => ⟨S32x8, .f32⟩
  | 15 => ⟨S32, .f32⟩
  | 16 => ⟨S32x106, .f32⟩
  | 17 => ⟨S32, .f32⟩
  | 18 => ⟨S2x32, .f32⟩
  | 19 => ⟨S2, .f32⟩
  | 20 => ⟨S1x16384, .i32⟩
  | 21 => ⟨S16384, .i32⟩
  | 22 => ⟨S_, .i32⟩
  | 23 => ⟨S16384, .i32⟩
  | 24 => ⟨S16384, .i1⟩
  | 25 => ⟨S_, .i32⟩
  | 26 => ⟨S16384, .i32⟩
  | 27 => ⟨S16384, .i32⟩
  | 28 => ⟨S16384, .i32⟩
  | 29 => ⟨S16384x1, .i32⟩
  | 30 => ⟨S1, .i32⟩
  | 31 => ⟨S_, .i32⟩
  | 32 => ⟨S16384x1, .i32⟩
  | 33 => ⟨S16384x1, .i1⟩
  | 34 => ⟨S1x1, .i32⟩
  | 35 => ⟨S16384x1, .i32⟩
  | 36 => ⟨S16384x1, .i1⟩
  | 37 => ⟨S16384x1, .i1⟩
  | 38 => ⟨S_, .i1⟩
  | 39 => ⟨S16384, .i1⟩
  | 40 => ⟨S16384x4, .f32⟩
  | 41 => ⟨S16384x4, .i1⟩
  | 42 => ⟨S_, .f32⟩
  | 43 => ⟨S16384x4, .f32⟩
  | 44 => ⟨S16384x4, .f32⟩
  | 45 => ⟨S1x16384, .i32⟩
  | 46 => ⟨S16384, .i32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S16384x1, .i32⟩
  | 55 => ⟨S1, .i32⟩
  | 56 => ⟨S_, .i32⟩
  | 57 => ⟨S16384x1, .i32⟩
  | 58 => ⟨S16384x1, .i1⟩
  | 59 => ⟨S1x1, .i32⟩
  | 60 => ⟨S16384x1, .i32⟩
  | 61 => ⟨S16384x1, .i1⟩
  | 62 => ⟨S16384x1, .i1⟩
  | 63 => ⟨S_, .i1⟩
  | 64 => ⟨S16384, .i1⟩
  | 65 => ⟨S16384x5, .f32⟩
  | 66 => ⟨S16384x5, .i1⟩
  | 67 => ⟨S_, .f32⟩
  | 68 => ⟨S16384x5, .f32⟩
  | 69 => ⟨S16384x5, .f32⟩
  | 70 => ⟨S1x16384, .i32⟩
  | 71 => ⟨S16384, .i32⟩
  | 72 => ⟨S_, .i32⟩
  | 73 => ⟨S16384, .i32⟩
  | 74 => ⟨S16384, .i1⟩
  | 75 => ⟨S_, .i32⟩
  | 76 => ⟨S16384, .i32⟩
  | 77 => ⟨S16384, .i32⟩
  | 78 => ⟨S16384, .i32⟩
  | 79 => ⟨S16384x1, .i32⟩
  | 80 => ⟨S1, .i32⟩
  | 81 => ⟨S_, .i32⟩
  | 82 => ⟨S16384x1, .i32⟩
  | 83 => ⟨S16384x1, .i1⟩
  | 84 => ⟨S1x1, .i32⟩
  | 85 => ⟨S16384x1, .i32⟩
  | 86 => ⟨S16384x1, .i1⟩
  | 87 => ⟨S16384x1, .i1⟩
  | 88 => ⟨S_, .i1⟩
  | 89 => ⟨S16384, .i1⟩
  | 90 => ⟨S16384x4, .f32⟩
  | 91 => ⟨S16384x4, .i1⟩
  | 92 => ⟨S_, .f32⟩
  | 93 => ⟨S16384x4, .f32⟩
  | 94 => ⟨S16384x4, .f32⟩
  | 95 => ⟨S1x16384, .i32⟩
  | 96 => ⟨S16384, .i32⟩
  | 97 => ⟨S_, .i32⟩
  | 98 => ⟨S16384, .i32⟩
  | 99 => ⟨S16384, .i1⟩
  | 100 => ⟨S_, .i32⟩
  | 101 => ⟨S16384, .i32⟩
  | 102 => ⟨S16384, .i32⟩
  | 103 => ⟨S16384, .i32⟩
  | 104 => ⟨S16384x1, .i32⟩
  | 105 => ⟨S1, .i32⟩
  | 106 => ⟨S_, .i32⟩
  | 107 => ⟨S16384x1, .i32⟩
  | 108 => ⟨S16384x1, .i1⟩
  | 109 => ⟨S1x1, .i32⟩
  | 110 => ⟨S16384x1, .i32⟩
  | 111 => ⟨S16384x1, .i1⟩
  | 112 => ⟨S16384x1, .i1⟩
  | 113 => ⟨S_, .i1⟩
  | 114 => ⟨S16384, .i1⟩
  | 115 => ⟨S16384x4, .f32⟩
  | 116 => ⟨S16384x4, .i1⟩
  | 117 => ⟨S_, .f32⟩
  | 118 => ⟨S16384x4, .f32⟩
  | 119 => ⟨S16384x4, .f32⟩
  | 120 => ⟨S1x16384, .i32⟩
  | 121 => ⟨S16384, .i32⟩
  | 122 => ⟨S_, .i32⟩
  | 123 => ⟨S16384, .i32⟩
  | 124 => ⟨S16384, .i1⟩
  | 125 => ⟨S_, .i32⟩
  | 126 => ⟨S16384, .i32⟩
  | 127 => ⟨S16384, .i32⟩
  | _ => ⟨S6x16384, .i32⟩

abbrev hbmTy0_1 (i : Nat) : BufTy := match i % 128 with
  | 0 => ⟨S16384, .i32⟩
  | 1 => ⟨S16384x1, .i32⟩
  | 2 => ⟨S1, .i32⟩
  | 3 => ⟨S_, .i32⟩
  | 4 => ⟨S16384x1, .i32⟩
  | 5 => ⟨S16384x1, .i1⟩
  | 6 => ⟨S1x1, .i32⟩
  | 7 => ⟨S16384x1, .i32⟩
  | 8 => ⟨S16384x1, .i1⟩
  | 9 => ⟨S16384x1, .i1⟩
  | 10 => ⟨S_, .i1⟩
  | 11 => ⟨S16384, .i1⟩
  | 12 => ⟨S16384x4, .f32⟩
  | 13 => ⟨S16384x4, .i1⟩
  | 14 => ⟨S_, .f32⟩
  | 15 => ⟨S16384x4, .f32⟩
  | 16 => ⟨S16384x4, .f32⟩
  | 17 => ⟨S1x16384, .i32⟩
  | 18 => ⟨S16384, .i32⟩
  | 19 => ⟨S_, .i32⟩
  | 20 => ⟨S16384, .i32⟩
  | 21 => ⟨S16384, .i1⟩
  | 22 => ⟨S_, .i32⟩
  | 23 => ⟨S16384, .i32⟩
  | 24 => ⟨S16384, .i32⟩
  | 25 => ⟨S16384, .i32⟩
  | 26 => ⟨S16384x1, .i32⟩
  | 27 => ⟨S1, .i32⟩
  | 28 => ⟨S_, .i32⟩
  | 29 => ⟨S16384x1, .i32⟩
  | 30 => ⟨S16384x1, .i1⟩
  | 31 => ⟨S1x1, .i32⟩
  | 32 => ⟨S16384x1, .i32⟩
  | 33 => ⟨S16384x1, .i1⟩
  | 34 => ⟨S16384x1, .i1⟩
  | 35 => ⟨S_, .i1⟩
  | 36 => ⟨S16384, .i1⟩
  | 37 => ⟨S16384x5, .f32⟩
  | 38 => ⟨S16384x5, .i1⟩
  | 39 => ⟨S_, .f32⟩
  | 40 => ⟨S16384x5, .f32⟩
  | 41 => ⟨S16384x5, .f32⟩
  | 42 => ⟨S16384x26, .f32⟩
  | 43 => ⟨S26x10, .f32⟩
  | 44 => ⟨S16384x10, .f32⟩
  | 45 => ⟨S1x10, .f32⟩
  | 46 => ⟨S16384x10, .f32⟩
  | 47 => ⟨S16384x10, .f32⟩
  | 48 => ⟨S_, .f32⟩
  | 49 => ⟨S16384x10, .f32⟩
  | 50 => ⟨S16384x10, .f32⟩
  | 51 => ⟨S8x8, .f32⟩
  | 52 => ⟨S16384x8, .f32⟩
  | 53 => ⟨S1x8, .f32⟩
  | 54 => ⟨S16384x8, .f32⟩
  | 55 => ⟨S16384x8, .f32⟩
  | 56 => ⟨S16384x8, .f32⟩
  | 57 => ⟨S16384x8, .f32⟩
  | 58 => ⟨S_, .f32⟩
  | 59 => ⟨S16384x8, .f32⟩
  | 60 => ⟨S16384x8, .f32⟩
  | 61 => ⟨S_, .f32⟩
  | 62 => ⟨S16384x8, .f32⟩
  | 63 => ⟨S16384x8, .f32⟩
  | 64 => ⟨S8x32, .f32⟩
  | 65 => ⟨S16384x32, .f32⟩
  | 66 => ⟨S1x32, .f32⟩
  | 67 => ⟨S16384x32, .f32⟩
  | 68 => ⟨S16384x32, .f32⟩
  | 69 => ⟨S_, .f32⟩
  | 70 => ⟨S16384x32, .f32⟩
  | 71 => ⟨S16384x32, .f32⟩
  | 72 => ⟨S16384x106, .f32⟩
  | 73 => ⟨S106x32, .f32⟩
  | 74 => ⟨S16384x32, .f32⟩
  | 75 => ⟨S1x32, .f32⟩
  | 76 => ⟨S16384x32, .f32⟩
  | 77 => ⟨S16384x32, .f32⟩
  | 78 => ⟨S_, .f32⟩
  | 79 => ⟨S16384x32, .f32⟩
  | 80 => ⟨S16384x32, .f32⟩
  | 81 => ⟨S32x2, .f32⟩
  | 82 => ⟨S16384x2, .f32⟩
  | 83 => ⟨S1x2, .f32⟩
  | 84 => ⟨S16384x2, .f32⟩
  | 85 => ⟨S16384x2, .f32⟩
  | _ => ⟨S6x16384, .i32⟩

abbrev hbmTy (i : Nat) : BufTy := match i / 128 with
  | 0 => hbmTy0_0 i
  | 1 => hbmTy0_1 i
  | _ => ⟨S6x16384, .i32⟩

abbrev bufTy : (tb : Table) → Fin (tcTables nBuf tb) → BufTy
  | .hbm, ⟨i, _⟩ => hbmTy i
  | _, _ => ⟨S6x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v5 : Ref sig .tc := ⟨.hbm, 69, rfl⟩
abbrev main_v6 : Ref sig .tc := ⟨.hbm, 70, rfl⟩
abbrev main_v7 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v8 : Ref sig .tc := ⟨.hbm, 94, rfl⟩
abbrev main_v9 : Ref sig .tc := ⟨.hbm, 95, rfl⟩
abbrev main_v10 : Ref sig .tc := ⟨.hbm, 96, rfl⟩
abbrev main_call3_c : Ref sig .tc := ⟨.hbm, 97, rfl⟩
abbrev main_call3_v0 : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_c_1 : Ref sig .tc := ⟨.hbm, 105, rfl⟩
abbrev main_call3_c_2 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_3 : Ref sig .tc := ⟨.hbm, 113, rfl⟩
abbrev main_call3_v12 : Ref sig .tc := ⟨.hbm, 114, rfl⟩
abbrev main_call3_v13 : Ref sig .tc := ⟨.hbm, 115, rfl⟩
abbrev main_call3_v14 : Ref sig .tc := ⟨.hbm, 116, rfl⟩
abbrev main_call3_cst : Ref sig .tc := ⟨.hbm, 117, rfl⟩
abbrev main_call3_v15 : Ref sig .tc := ⟨.hbm, 118, rfl⟩
abbrev main_v11 : Ref sig .tc := ⟨.hbm, 119, rfl⟩
abbrev main_v12 : Ref sig .tc := ⟨.hbm, 120, rfl⟩
abbrev main_v13 : Ref sig .tc := ⟨.hbm, 121, rfl⟩
abbrev main_call4_c : Ref sig .tc := ⟨.hbm, 122, rfl⟩
abbrev main_call4_v0 : Ref sig .tc := ⟨.hbm, 123, rfl⟩
abbrev main_call4_v1 : Ref sig .tc := ⟨.hbm, 124, rfl⟩
abbrev main_call4_c_0 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_call4_v5 : Ref sig .tc := ⟨.hbm, 129, rfl⟩
abbrev main_call4_c_1 : Ref sig .tc := ⟨.hbm, 130, rfl⟩
abbrev main_call4_c_2 : Ref sig .tc := ⟨.hbm, 131, rfl⟩
abbrev main_call4_v6 : Ref sig .tc := ⟨.hbm, 132, rfl⟩
abbrev main_call4_v7 : Ref sig .tc := ⟨.hbm, 133, rfl⟩
abbrev main_call4_v8 : Ref sig .tc := ⟨.hbm, 134, rfl⟩
abbrev main_call4_v9 : Ref sig .tc := ⟨.hbm, 135, rfl⟩
abbrev main_call4_v10 : Ref sig .tc := ⟨.hbm, 136, rfl⟩
abbrev main_call4_v11 : Ref sig .tc := ⟨.hbm, 137, rfl⟩
abbrev main_call4_c_3 : Ref sig .tc := ⟨.hbm, 138, rfl⟩
abbrev main_call4_v12 : Ref sig .tc := ⟨.hbm, 139, rfl⟩
abbrev main_call4_v13 : Ref sig .tc := ⟨.hbm, 140, rfl⟩
abbrev main_call4_v14 : Ref sig .tc := ⟨.hbm, 141, rfl⟩
abbrev main_call4_cst : Ref sig .tc := ⟨.hbm, 142, rfl⟩
abbrev main_call4_v15 : Ref sig .tc := ⟨.hbm, 143, rfl⟩
abbrev main_v14 : Ref sig .tc := ⟨.hbm, 144, rfl⟩
abbrev main_v15 : Ref sig .tc := ⟨.hbm, 145, rfl⟩
abbrev main_v16 : Ref sig .tc := ⟨.hbm, 146, rfl⟩
abbrev main_call5_c : Ref sig .tc := ⟨.hbm, 147, rfl⟩
abbrev main_call5_v0 : Ref sig .tc := ⟨.hbm, 148, rfl⟩
abbrev main_call5_v1 : Ref sig .tc := ⟨.hbm, 149, rfl⟩
abbrev main_call5_c_0 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_call5_v5 : Ref sig .tc := ⟨.hbm, 154, rfl⟩
abbrev main_call5_c_1 : Ref sig .tc := ⟨.hbm, 155, rfl⟩
abbrev main_call5_c_2 : Ref sig .tc := ⟨.hbm, 156, rfl⟩
abbrev main_call5_v6 : Ref sig .tc := ⟨.hbm, 157, rfl⟩
abbrev main_call5_v7 : Ref sig .tc := ⟨.hbm, 158, rfl⟩
abbrev main_call5_v8 : Ref sig .tc := ⟨.hbm, 159, rfl⟩
abbrev main_call5_v9 : Ref sig .tc := ⟨.hbm, 160, rfl⟩
abbrev main_call5_v10 : Ref sig .tc := ⟨.hbm, 161, rfl⟩
abbrev main_call5_v11 : Ref sig .tc := ⟨.hbm, 162, rfl⟩
abbrev main_call5_c_3 : Ref sig .tc := ⟨.hbm, 163, rfl⟩
abbrev main_call5_v12 : Ref sig .tc := ⟨.hbm, 164, rfl⟩
abbrev main_call5_v13 : Ref sig .tc := ⟨.hbm, 165, rfl⟩
abbrev main_call5_v14 : Ref sig .tc := ⟨.hbm, 166, rfl⟩
abbrev main_call5_cst : Ref sig .tc := ⟨.hbm, 167, rfl⟩
abbrev main_call5_v15 : Ref sig .tc := ⟨.hbm, 168, rfl⟩
abbrev main_v17 : Ref sig .tc := ⟨.hbm, 169, rfl⟩
abbrev main_v18 : Ref sig .tc := ⟨.hbm, 170, rfl⟩
abbrev main_v19 : Ref sig .tc := ⟨.hbm, 171, rfl⟩
abbrev main_v20 : Ref sig .tc := ⟨.hbm, 172, rfl⟩
abbrev main_v21 : Ref sig .tc := ⟨.hbm, 173, rfl⟩
abbrev main_v22 : Ref sig .tc := ⟨.hbm, 174, rfl⟩
abbrev main_v23 : Ref sig .tc := ⟨.hbm, 175, rfl⟩
abbrev main_call6_cst : Ref sig .tc := ⟨.hbm, 176, rfl⟩
abbrev main_call6_v0 : Ref sig .tc := ⟨.hbm, 177, rfl⟩
abbrev main_v24 : Ref sig .tc := ⟨.hbm, 178, rfl⟩
abbrev main_v25 : Ref sig .tc := ⟨.hbm, 179, rfl⟩
abbrev main_v26 : Ref sig .tc := ⟨.hbm, 180, rfl⟩
abbrev main_v27 : Ref sig .tc := ⟨.hbm, 181, rfl⟩
abbrev main_v28 : Ref sig .tc := ⟨.hbm, 182, rfl⟩
abbrev main_v29 : Ref sig .tc := ⟨.hbm, 183, rfl⟩
abbrev main_v30 : Ref sig .tc := ⟨.hbm, 184, rfl⟩
abbrev main_v31 : Ref sig .tc := ⟨.hbm, 185, rfl⟩
abbrev main_cst : Ref sig .tc := ⟨.hbm, 186, rfl⟩
abbrev main_v32 : Ref sig .tc := ⟨.hbm, 187, rfl⟩
abbrev main_v33 : Ref sig .tc := ⟨.hbm, 188, rfl⟩
abbrev main_cst_0 : Ref sig .tc := ⟨.hbm, 189, rfl⟩
abbrev main_v34 : Ref sig .tc := ⟨.hbm, 190, rfl⟩
abbrev main_v35 : Ref sig .tc := ⟨.hbm, 191, rfl⟩
abbrev main_v36 : Ref sig .tc := ⟨.hbm, 192, rfl⟩
abbrev main_v37 : Ref sig .tc := ⟨.hbm, 193, rfl⟩
abbrev main_v38 : Ref sig .tc := ⟨.hbm, 194, rfl⟩
abbrev main_v39 : Ref sig .tc := ⟨.hbm, 195, rfl⟩
abbrev main_v40 : Ref sig .tc := ⟨.hbm, 196, rfl⟩
abbrev main_call7_cst : Ref sig .tc := ⟨.hbm, 197, rfl⟩
abbrev main_call7_v0 : Ref sig .tc := ⟨.hbm, 198, rfl⟩
abbrev main_v41 : Ref sig .tc := ⟨.hbm, 199, rfl⟩
abbrev main_v42 : Ref sig .tc := ⟨.hbm, 200, rfl⟩
abbrev main_v43 : Ref sig .tc := ⟨.hbm, 201, rfl⟩
abbrev main_v44 : Ref sig .tc := ⟨.hbm, 202, rfl⟩
abbrev main_v45 : Ref sig .tc := ⟨.hbm, 203, rfl⟩
abbrev main_v46 : Ref sig .tc := ⟨.hbm, 204, rfl⟩
abbrev main_v47 : Ref sig .tc := ⟨.hbm, 205, rfl⟩
abbrev main_call8_cst : Ref sig .tc := ⟨.hbm, 206, rfl⟩
abbrev main_call8_v0 : Ref sig .tc := ⟨.hbm, 207, rfl⟩
abbrev main_v48 : Ref sig .tc := ⟨.hbm, 208, rfl⟩
abbrev main_v49 : Ref sig .tc := ⟨.hbm, 209, rfl⟩
abbrev main_v50 : Ref sig .tc := ⟨.hbm, 210, rfl⟩
abbrev main_v51 : Ref sig .tc := ⟨.hbm, 211, rfl⟩
abbrev main_v52 : Ref sig .tc := ⟨.hbm, 212, rfl⟩
abbrev main_v53 : Ref sig .tc := ⟨.hbm, 213, rfl⟩

abbrev nD : Nat := 1
abbrev τ : Topo := Topo.v7x

variable {F : FTy → Type} [FloatOps F]
-- ==== Proof.Tower.lean ====
/-
  THE MATHEMATICS, over the extended reals and plain functions of indices: what one row of the batch is mapped to, and the
  four equations by which the kernel's arrangement of it is the plain one:

    * multiplying by a sum of six one-hot columns picks six entries (`sum_oneHot`),
    * the six zero-padded table rows picked add up to the concatenated embedding (`sum_padded`), so that the kernel's
      «weights times tables, times one-hot» is the weights times the embedding (`folded_lookup`),
    * a contraction over the 106 joined features is the sum of the four contractions over their parts (`sum_joined`).

  None of them needs a finite entry: the only products rearranged have the factor 0 or 1.
-/
module

public import Idealize.ShloMosaic.PureOps.Ideal
public import Mathlib.Data.EReal.Operations
public import Mathlib.Algebra.BigOperators.Fin
public import Mathlib.Tactic.FinCases

@[expose] public section

set_option maxRecDepth 16384

noncomputable section

namespace Cert.Tower

open Idealize.ShloMosaic

/-! ## What one row of the batch is mapped to -/

/-- The weights of the five dense layers, each a matrix (output feature, input feature) and a bias. -/
structure Weights where
  /-- the layer of the embedded categories -/
  hy : Fin 10 → Fin 26 → EReal
  /-- its bias -/
  hyBias : Fin 10 → EReal
  /-- the first layer of the inventory branch -/
  inv1 : Fin 8 → Fin 8 → EReal
  /-- its bias -/
  inv1Bias : Fin 8 → EReal
  /-- the second layer of the inventory branch -/
  inv2 : Fin 32 → Fin 8 → EReal
  /-- its bias -/
  inv2Bias : Fin 32 → EReal
  /-- the layer of the joined features -/
  out1 : Fin 32 → Fin 106 → EReal
  /-- its bias -/
  out1Bias : Fin 32 → EReal
  /-- the last layer -/
  out2 : Fin 2 → Fin 32 → EReal
  /-- its bias -/
  out2Bias : Fin 2 → EReal

/-- The first ten rows of the six embedding tables. -/
structure Tables where
  /-- table of category 0 -/
  e0 : Fin 10 → Fin 4 → EReal
  /-- table of category 1 -/
  e1 : Fin 10 → Fin 5 → EReal
  /-- table of category 2 -/
  e2 : Fin 10 → Fin 4 → EReal
  /-- table of category 3 -/
  e3 : Fin 10 → Fin 4 → EReal
  /-- table of category 4 -/
  e4 : Fin 10 → Fin 4 → EReal
  /-- table of category 5 -/
  e5 : Fin 10 → Fin 5 → EReal

/-- The logistic function. -/
def sigmoid (x : EReal) : EReal := Ideal.div 1 (1 + Ideal.exp (-x))

/-- The 26 embedded features of a row with the six category codes `code`: its row of each table, one after the other. -/
def embedding (T : Tables) (code : Fin 6 → Fin 10) (t : Fin 26) : EReal :=
  if h : t.val < 4 then T.e0 (code 0) ⟨t.val, h⟩
  else if h : t.val - 4 < 5 then T.e1 (code 1) ⟨t.val - 4, h⟩
  else if h : t.val - 4 - 5 < 4 then T.e2 (code 2) ⟨t.val - 4 - 5, h⟩
  else if h : t.val - 4 - 5 - 4 < 4 then T.e3 (code 3) ⟨t.val - 4 - 5 - 4, h⟩
  else if h : t.val - 4 - 5 - 4 - 4 < 4 then T.e4 (code 4) ⟨t.val - 4 - 5 - 4 - 4, h⟩
  else T.e5 (code 5) ⟨t.val - 4 - 5 - 4 - 4 - 4, by omega⟩

/-- The ten features of the embedded categories: a dense layer and a rectifier. -/
def categories (W : Weights) (T : Tables) (code : Fin 6 → Fin 10) (o : Fin 10) : EReal :=
  max (∑ t : Fin 26, embedding T code t * W.hy o t + W.hyBias o) 0

/-- The 32 features of the inventory branch: a dense layer and the logistic function, a dense layer and a rectifier. -/
def inventory (W : Weights) (inv : Fin 8 → EReal) (o : Fin 32) : EReal :=
  max (∑ k : Fin 8, sigmoid (∑ l : Fin 8, inv l * W.inv1 k l + W.inv1Bias k) * W.inv2 o k + W.inv2Bias o) 0

/-- The 106 joined features: the two given vectors, then the category features, then the inventory features. -/
def joined (re tax : Fin 32 → EReal) (h : Fin 10 → EReal) (iv : Fin 32 → EReal) (k : Fin 106) : EReal :=
  if h' : k.val < 32 then re ⟨k.val, h'⟩
  else if h' : k.val - 32 < 32 then tax ⟨k.val - 32, h'⟩
  else if h' : k.val - 32 - 32 < 10 then h ⟨k.val - 32 - 32, h'⟩
  else iv ⟨k.val - 32 - 32 - 10, by omega⟩

/-- The two scores of a row: a dense layer of its 106 joined features, a rectifier and the last dense layer. -/
def score (W : Weights) (T : Tables) (code : Fin 6 → Fin 10) (inv : Fin 8 → EReal) (re tax : Fin 32 → EReal) (q : Fin 2) : EReal :=
  ∑ j : Fin 32, max (∑ k : Fin 106, joined re tax (categories W T code) (inventory W inv) k * W.out1 j k + W.out1Bias j) 0 * W.out2 q j
    + W.out2Bias q

/-! ## The kernel's arrangement of the lookups -/

/-- The one-hot column of the six codes: over the 60 stacked table rows, how many of the six codes pick row `l` (row
    `10 k + c` is row `c` of table `k`). -/
def oneHot (code : Fin 6 → Fin 10) (l : Fin 60) : EReal :=
  ∑ k : Fin 6, if l.val = 10 * k.val + (code k).val then 1 else 0

/-- A table row of `d` entries put at column `off` of a row of 26, zeros elsewhere. -/
def padded (off d : ℕ) (e : Fin d → EReal) (t : Fin 26) : EReal :=
  if h : off ≤ t.val ∧ t.val < off + d then e ⟨t.val - off, by omega⟩ else 0

/-- Read by cases along the columns: zeros up to column `off`, the `d` entries, zeros from column `off + d` on. -/
theorem padded_middle (off d : ℕ) (e : Fin d → EReal) (t : Fin 26) :
    (if _ : t.val < off then (0 : EReal) else if h : t.val - off < d then e ⟨t.val - off, h⟩ else 0) = padded off d e t := by
  unfold padded
  split_ifs <;> first | rfl | omega

/-- The same with no zeros before the entries. -/
theorem padded_front (d : ℕ) (e : Fin d → EReal) (t : Fin 26) :
    (if h : t.val < d then e ⟨t.val, h⟩ else (0 : EReal)) = padded 0 d e t := by
  unfold padded
  split_ifs <;> first | rfl | omega

/-- The same with no zeros after the entries. -/
theorem padded_back (off d : ℕ) (hd : off + d = 26) (e : Fin d → EReal) (t : Fin 26) :
    (if h : t.val < off then (0 : EReal) else e ⟨t.val - off, by omega⟩) = padded off d e t := by
  unfold padded
  split_ifs <;> first | rfl | omega

/-- The six tables, padded to 26 columns and stacked: entry (`c`, `t`) of the piece of table `k`. -/
def piece (T : Tables) (k : Fin 6) (c : Fin 10) : Fin 26 → EReal :=
  match k with
  | 0 => padded 0 4 (T.e0 c)
  | 1 => padded 4 5 (T.e1 c)
  | 2 => padded 9 4 (T.e2 c)
  | 3 => padded 13 4 (T.e3 c)
  | 4 => padded 17 4 (T.e4 c)
  | 5 => padded 21 5 (T.e5 c)

/-- Of a product with the one-hot column the six picked entries are left. -/
theorem sum_oneHot (M : Fin 60 → EReal) (code : Fin 6 → Fin 10) :
    ∑ l, M l * oneHot code l = ∑ k : Fin 6, M ⟨10 * k.val + (code k).val, by omega⟩ := by
  have pos : ∀ (l : Fin 60) (k : Fin 6), (0 : EReal) ≤ if l.val = 10 * k.val + (code k).val then 1 else 0 := fun l k => by
    split <;> simp
  have spread : ∀ l, M l * oneHot code l = ∑ k : Fin 6, M l * if l.val = 10 * k.val + (code k).val then 1 else 0 := fun l => by
    simp only [oneHot, Fin.sum_univ_six]
    rw [EReal.left_distrib_of_nonneg, EReal.left_distrib_of_nonneg, EReal.left_distrib_of_nonneg, EReal.left_distrib_of_nonneg,
      EReal.left_distrib_of_nonneg]
    all_goals first | exact pos l _ | (repeat' apply add_nonneg) <;> exact pos l _
  rw [Finset.sum_congr rfl fun l _ => spread l, Finset.sum_comm]
  refine Finset.sum_congr rfl fun k _ => ?_
  rw [Finset.sum_eq_single (⟨10 * k.val + (code k).val, by omega⟩ : Fin 60)]
  · rw [if_pos rfl, mul_one]
  · intro l _ hl
    rw [if_neg fun h => hl (Fin.ext h), mul_zero]
  · intro h
    exact absurd (Finset.mem_univ _) h

/-- Column by column, the six picked padded rows add up to the embedding, under any weight. -/
theorem sum_padded (T : Tables) (code : Fin 6 → Fin 10) (w : EReal) (t : Fin 26) :
    ∑ k : Fin 6, w * piece T k (code k) t = embedding T code t * w := by
  rw [Fin.sum_univ_six]
  fin_cases t <;> simp [piece, padded, embedding, mul_comm]

/-- The weights times the stacked padded tables `tab`, times the one-hot column, are the weights times the embedding. -/
theorem folded_lookup (T : Tables) (code : Fin 6 → Fin 10) (w : Fin 26 → EReal) (tab : Fin 60 → Fin 26 → EReal)
    (htab : ∀ (k : Fin 6) (c : Fin 10) (t : Fin 26), tab ⟨10 * k.val + c.val, by omega⟩ t = piece T k c t) :
    ∑ l, (∑ t, w t * tab l t) * oneHot code l = ∑ t, embedding T code t * w t := by
  rw [sum_oneHot (fun l => ∑ t, w t * tab l t), Finset.sum_comm]
  refine Finset.sum_congr rfl fun t _ => ?_
  rw [← sum_padded]
  exact Finset.sum_congr rfl fun k _ => by rw [htab]

/-- A contraction over the 106 joined features, part by part. -/
theorem sum_joined (re tax : Fin 32 → EReal) (h : Fin 10 → EReal) (iv : Fin 32 → EReal) (w : Fin 106 → EReal) :
    ∑ k, joined re tax h iv k * w k
      = ∑ k : Fin 32, re k * w ⟨k.val, by omega⟩ + ∑ k : Fin 32, tax k * w ⟨32 + k.val, by omega⟩
        + ∑ k : Fin 10, h k * w ⟨64 + k.val, by omega⟩ + ∑ k : Fin 32, iv k * w ⟨74 + k.val, by omega⟩ := by
  show ∑ k : Fin (32 + 32 + 10 + 32), joined re tax h iv k * w k = _
  rw [Fin.sum_univ_add, Fin.sum_univ_add, Fin.sum_univ_add]
  refine congrArg₂ _ (congrArg₂ _ (congrArg₂ _ ?_ ?_) ?_) ?_ <;> refine Finset.sum_congr rfl fun k _ => congrArg₂ _ ?_ rfl
  · simp [joined]
  · simp [joined]
  · have := k.isLt
    simp only [joined, Fin.natAdd, Fin.castAdd, Fin.castLE]
    rw [dif_neg (by omega), dif_neg (by omega), dif_pos (by omega)]
    exact congrArg h (Fin.ext (by show 32 + 32 + k.val - 32 - 32 = k.val; omega))
  · simp only [joined, Fin.natAdd]
    rw [dif_neg (by omega), dif_neg (by omega), dif_neg (by omega)]
    exact congrArg iv (Fin.ext (by show 32 + 32 + 10 + k.val - 32 - 32 - 10 = k.val; omega))

end Cert.Tower

end
-- ==== Proof.Data.lean ====
/-
  THE DATA OF THE PROBLEM as arrays, and the scores of the whole batch as one function of them: what both programs are
  shown to compute, row by row (`Tower.score`).
-/
module

public import proofs.«01_k».proof.Proof.Tower
public import proofs.«01_k».proof.KernelIdeal
public import Idealize.ShloMosaic.Lib.Pointwise

@[expose] public section

noncomputable section

namespace Cert.Data

open Idealize.ShloMosaic Cert.KernelIdeal Cert.Tower

/-- The twenty arguments, in the programs' order. -/
structure Arrays where
  /-- the category codes: one row per category, one column per row of the batch -/
  hy : IVec S6x16384 32
  /-- the inventory of each row of the batch -/
  inv : FVec Ideal S16384x8 .f32
  /-- the first given feature vector of each row -/
  re : FVec Ideal S16384x32 .f32
  /-- the second given feature vector of each row -/
  tax : FVec Ideal S16384x32 .f32
  /-- the embedding table of category 0 -/
  e0 : FVec Ideal S10x4 .f32
  /-- the embedding table of category 1 -/
  e1 : FVec Ideal S901x5 .f32
  /-- the embedding table of category 2 -/
  e2 : FVec Ideal S10x4 .f32
  /-- the embedding table of category 3 -/
  e3 : FVec Ideal S10x4 .f32
  /-- the embedding table of category 4 -/
  e4 : FVec Ideal S100x4 .f32
  /-- the embedding table of category 5 -/
  e5 : FVec Ideal S20x5 .f32
  /-- the layer of the embedded categories -/
  hyW : FVec Ideal S10x26 .f32
  /-- its bias -/
  hyB : FVec Ideal S10 .f32
  /-- the first layer of the inventory branch -/
  inv1W : FVec Ideal S8x8 .f32
  /-- its bias -/
  inv1B : FVec Ideal S8 .f32
  /-- the second layer of the inventory branch -/
  inv2W : FVec Ideal S32x8 .f32
  /-- its bias -/
  inv2B : FVec Ideal S32 .f32
  /-- the layer of the joined features -/
  out1W : FVec Ideal S32x106 .f32
  /-- its bias -/
  out1B : FVec Ideal S32 .f32
  /-- the last layer -/
  out2W : FVec Ideal S2x32 .f32
  /-- its bias -/
  out2B : FVec Ideal S2 .f32

/-- The weights, entry by entry. -/
def weights (A : Arrays) : Weights where
  hy o t := A.hyW (ix2 o t)
  hyBias o := A.hyB (ix1 o)
  inv1 k l := A.inv1W (ix2 k l)
  inv1Bias k := A.inv1B (ix1 k)
  inv2 o k := A.inv2W (ix2 o k)
  inv2Bias o := A.inv2B (ix1 o)
  out1 j k := A.out1W (ix2 j k)
  out1Bias j := A.out1B (ix1 j)
  out2 q j := A.out2W (ix2 q j)
  out2Bias q := A.out2B (ix1 q)

/-- The first ten rows of each table, entry by entry. -/
def tables (A : Arrays) : Tables where
  e0 c t := A.e0 (ix2 c t)
  e1 c t := A.e1 (ix2 ⟨c.val, by omega⟩ t)
  e2 c t := A.e2 (ix2 c t)
  e3 c t := A.e3 (ix2 c t)
  e4 c t := A.e4 (ix2 ⟨c.val, by omega⟩ t)
  e5 c t := A.e5 (ix2 ⟨c.val, by omega⟩ t)

/-- Category `k`'s code in row `b` of the batch, as a number below ten. -/
def code (A : Arrays) (b : Fin 16384) (k : Fin 6) : Fin 10 := ⟨(A.hy (ix2 k b)).toNat % 10, Nat.mod_lt _ (by decide)⟩

/-- Every word of the codes is a number below ten: it is then the word of `code`. -/
def CodesBelowTen (A : Arrays) : Prop := ∀ (k : Fin 6) (b : Fin 16384), A.hy (ix2 k b) = BitVec.ofNat 32 (code A b k).val

/-- A word whose number is below ten is the word of its code. -/
theorem codesBelowTen_of_lt (A : Arrays) (h : ∀ (k : Fin 6) (b : Fin 16384), (A.hy (ix2 k b)).toNat < 10) : CodesBelowTen A := by
  intro k b
  unfold code
  dsimp only
  rw [Nat.mod_eq_of_lt (h k b), BitVec.ofNat_toNat, BitVec.setWidth_eq]

/-- The score `q` of row `b` of the batch. -/
def rowScore (A : Arrays) (b : Fin 16384) (q : Fin 2) : EReal :=
  score (weights A) (tables A) (code A b) (fun l => A.inv (ix2 b l)) (fun k => A.re (ix2 b k)) (fun k => A.tax (ix2 b k)) q

/-- The scores of the whole batch. -/
def scores (A : Arrays) : FVec Ideal S16384x2 .f32 := fun i => rowScore A (i 0) (i 1)

/-- The scores of the whole batch, read at row `b` and score `q`. -/
theorem scores_apply (A : Arrays) (b : Fin 16384) (q : Fin 2) : scores A (ix2 b q) = rowScore A b q := rfl

end Cert.Data
-- ==== Proof.Block.lean ====
/-
  WHAT ONE GRID POINT COMPUTES: the value the kernel's body stores, read at a row `r` of its block of 4096 rows, is the row's
  score (`Tower.score`), provided the row's six words are codes below ten. The body's payloads are read one after the other:
  the one-hot columns, the padded tables and their stack, the category features, the inventory features, the scores.
-/
module

public import proofs.«01_k».proof.Proof.Tower
public import proofs.«01_k».proof.Proof.Gen.KernelIdeal.Skeleton
public import Idealize.ShloMosaic.Lib.Pointwise

@[expose] public section

set_option maxRecDepth 16384

noncomputable section

namespace Cert.Block

open Idealize.ShloMosaic Cert.KernelIdeal Cert.KernelIdeal.Gen Cert.Tower

/-- A comparison of two words for equality, widened and converted to a float, is the indicator of their equality. -/
theorem indicator_apply (x y : BitVec 32) :
    (FloatOps.sitofp .f32 (BitVec.setWidth 32 (IntOp.cmpi .eq x y)) : Ideal .f32) = if x = y then (1 : EReal) else 0 := by
  show (((BitVec.setWidth 32 (BitVec.ofBool (x == y))).toInt : ℝ) : EReal) = _
  by_cases h : x = y
  · rw [if_pos h, h]; simp
  · rw [if_neg h, beq_false_of_ne h]; simp

/-- Row number `l` is the word of code `c`, moved up by `n`, exactly when the numbers agree. -/
theorem row_eq_iff (l : Fin 60) (c : Fin 10) (n : ℕ) (hn : n ≤ 50) (w : BitVec 32) (hw : w = BitVec.ofNat 32 c.val) :
    BitVec.ofNat 32 l.val = IntOp.addi w (BitVec.ofNat 32 n) ↔ l.val = n + c.val := by
  subst hw
  show BitVec.ofNat 32 l.val = BitVec.ofNat 32 c.val + BitVec.ofNat 32 n ↔ _
  rw [← BitVec.ofNat_add, ← BitVec.toNat_inj, BitVec.toNat_ofNat, BitVec.toNat_ofNat, Nat.mod_eq_of_lt (by omega), Nat.mod_eq_of_lt (by omega)]
  omega

/-- The one-hot columns: entry (`l`, `r`) counts the codes of row `r` that pick the stacked table row `l`. -/
theorem oneHot_apply (c0 c1 c2 c3 c4 c5 : IVec S1x4096 32) (l : Fin 60) (r : Fin 4096) (code : Fin 6 → Fin 10)
    (h0 : c0 (ix2 0 r) = BitVec.ofNat 32 (code 0).val) (h1 : c1 (ix2 0 r) = BitVec.ofNat 32 (code 1).val)
    (h2 : c2 (ix2 0 r) = BitVec.ofNat 32 (code 2).val) (h3 : c3 (ix2 0 r) = BitVec.ofNat 32 (code 3).val)
    (h4 : c4 (ix2 0 r) = BitVec.ofNat 32 (code 4).val) (h5 : c5 (ix2 0 r) = BitVec.ofNat 32 (code 5).val) :
    k0_pay3 (F := Ideal) (iota .tc S60x4096 32 [0] iota_S60x4096_d0_w32) (k0_pay1 c0 c1 c2 c3) (k0_pay2 (F := Ideal) c4) c5 (ix2 l r)
      = oneHot code l := by
  pointwise [k0_pay3, k0_pay1, k0_pay2]
  rw [oneHot, Fin.sum_univ_six]
  simp only [indicator_apply, row_eq_iff l _ 0 (by omega) _ h0, row_eq_iff l _ 10 (by omega) _ h1, row_eq_iff l _ 20 (by omega) _ h2,
    row_eq_iff l _ 30 (by omega) _ h3, row_eq_iff l _ 40 (by omega) _ h4, row_eq_iff l _ 50 (by omega) _ h5]
  rfl

/-- The table of category 0 in columns 0 to 3. -/
theorem pad0_apply (e : FVec Ideal S10x4 .f32) (c : Fin 10) (t : Fin 26) :
    k0_pay4 (F := Ideal) e (ix2 c t) = padded 0 4 (fun j => e (ix2 c j)) t := by
  pointwise [k0_pay4]
  exact padded_front 4 (fun j => e (ix2 c j)) t

/-- The table of category 1 in columns 4 to 8. -/
theorem pad1_apply (e : FVec Ideal S10x5 .f32) (c : Fin 10) (t : Fin 26) :
    k0_pay5 (F := Ideal) e (ix2 c t) = padded 4 5 (fun j => e (ix2 c j)) t := by
  pointwise [k0_pay5]
  exact padded_middle 4 5 (fun j => e (ix2 c j)) t

/-- The table of category 2 in columns 9 to 12. -/
theorem pad2_apply (e : FVec Ideal S10x4 .f32) (c : Fin 10) (t : Fin 26) :
    k0_pay6 (F := Ideal) e (ix2 c t) = padded 9 4 (fun j => e (ix2 c j)) t := by
  pointwise [k0_pay6]
  exact padded_middle 9 4 (fun j => e (ix2 c j)) t

/-- The table of category 3 in columns 13 to 16. -/
theorem pad3_apply (e : FVec Ideal S10x4 .f32) (c : Fin 10) (t : Fin 26) :
    k0_pay7 (F := Ideal) e (ix2 c t) = padded 13 4 (fun j => e (ix2 c j)) t := by
  pointwise [k0_pay7]
  exact padded_middle 13 4 (fun j => e (ix2 c j)) t

/-- The table of category 4 in columns 17 to 20. -/
theorem pad4_apply (e : FVec Ideal S10x4 .f32) (c : Fin 10) (t : Fin 26) :
    k0_pay8 (F := Ideal) e (ix2 c t) = padded 17 4 (fun j => e (ix2 c j)) t := by
  pointwise [k0_pay8]
  exact padded_middle 17 4 (fun j => e (ix2 c j)) t

/-- The table of category 5 in columns 21 to 25. -/
theorem pad5_apply (e : FVec Ideal S10x5 .f32) (c : Fin 10) (t : Fin 26) :
    k0_pay9 (F := Ideal) e (ix2 c t) = padded 21 5 (fun j => e (ix2 c j)) t := by
  pointwise [k0_pay9]
  exact padded_back 21 5 rfl (fun j => e (ix2 c j)) t

/-- The category features of row `r`, from its one-hot column and the six padded tables. -/
theorem categories_apply (W : Weights) (T : Tables) (code : Fin 6 → Fin 10) (oh : FVec Ideal S60x4096 .bf16)
    (t0 t1 t2 t3 t4 t5 : FVec Ideal S10x26 .f32) (w : FVec Ideal S10x26 .f32) (b : FVec Ideal S10x1 .f32) (o : Fin 10) (r : Fin 4096)
    (hoh : ∀ l, oh (ix2 l r) = oneHot code l)
    (h0 : ∀ c t, t0 (ix2 c t) = piece T 0 c t) (h1 : ∀ c t, t1 (ix2 c t) = piece T 1 c t) (h2 : ∀ c t, t2 (ix2 c t) = piece T 2 c t)
    (h3 : ∀ c t, t3 (ix2 c t) = piece T 3 c t) (h4 : ∀ c t, t4 (ix2 c t) = piece T 4 c t) (h5 : ∀ c t, t5 (ix2 c t) = piece T 5 c t)
    (hw : ∀ t, w (ix2 o t) = W.hy o t) (hb : b (ix2 o 0) = W.hyBias o) :
    k0_pay10 (F := Ideal) oh t0 t1 t2 t3 t4 t5 w b (ix2 o r) = categories W T code o := by
  pointwise [k0_pay10]
  simp only [hoh, h0, h1, h2, h3, h4, h5, hw, hb]
  refine congrArg₂ max (congrArg (· + W.hyBias o) ?_) rfl
  refine folded_lookup T code (W.hy o) _ fun k c t => ?_
  have hc := c.isLt
  fin_cases k <;> dsimp only <;> split_ifs <;>
    first
    | exact congrArg (fun c => piece T _ c t) (Fin.ext (by dsimp only; omega))
    | (exfalso; omega)

/-- The inventory features of row `r`. -/
theorem inventory_apply (W : Weights) (inv : Fin 8 → EReal) (w1 : FVec Ideal S8x8 .f32) (x : FVec Ideal S4096x8 .f32)
    (b1 : FVec Ideal S8x1 .f32) (w2 : FVec Ideal S32x8 .f32) (b2 : FVec Ideal S32x1 .f32) (o : Fin 32) (r : Fin 4096)
    (hx : ∀ l, x (ix2 r l) = inv l) (hw1 : ∀ k l, w1 (ix2 k l) = W.inv1 k l) (hb1 : ∀ k, b1 (ix2 k 0) = W.inv1Bias k)
    (hw2 : ∀ k, w2 (ix2 o k) = W.inv2 o k) (hb2 : b2 (ix2 o 0) = W.inv2Bias o) :
    k0_pay11 (F := Ideal) w1 x b1 w2 b2 (ix2 o r) = inventory W inv o := by
  pointwise [k0_pay11]
  simp only [hx, hw1, hb1, hw2, hb2]
  unfold inventory sigmoid
  refine congrArg₂ max (congrArg (· + W.inv2Bias o) (Finset.sum_congr rfl fun k _ => ?_)) rfl
  rw [mul_comm, zero_sub]
  simp only [mul_comm]

/-- The scores of row `r`, from its two given vectors, its category features and its inventory features. -/
theorem score_apply (W : Weights) (T : Tables) (code : Fin 6 → Fin 10) (inv : Fin 8 → EReal) (re tax : Fin 32 → EReal)
    (h : FVec Ideal S10x4096 .f32) (iv : FVec Ideal S32x4096 .f32) (w1 : FVec Ideal S32x106 .f32) (xre xtax : FVec Ideal S4096x32 .f32)
    (b1 : FVec Ideal S1x32 .f32) (w2 : FVec Ideal S2x32 .f32) (b2 : FVec Ideal S1x2 .f32) (r : Fin 4096) (q : Fin 2)
    (hh : ∀ o, h (ix2 o r) = categories W T code o) (hiv : ∀ o, iv (ix2 o r) = inventory W inv o)
    (hre : ∀ k, xre (ix2 r k) = re k) (htax : ∀ k, xtax (ix2 r k) = tax k) (hw1 : ∀ j k, w1 (ix2 j k) = W.out1 j k)
    (hb1 : ∀ j, b1 (ix2 0 j) = W.out1Bias j) (hw2 : ∀ j, w2 (ix2 q j) = W.out2 q j) (hb2 : b2 (ix2 0 q) = W.out2Bias q) :
    k0_pay12 (F := Ideal) h iv w1 xre xtax b1 w2 b2 (ix2 r q) = score W T code inv re tax q := by
  pointwise [k0_pay12]
  simp only [hh, hiv, hre, htax, hw1, hb1, hw2, hb2]
  unfold score
  refine congrArg (· + W.out2Bias q) (Finset.sum_congr rfl fun j _ => congrArg (· * W.out2 q j) (congrArg₂ max ?_ rfl))
  rw [sum_joined]
  ac_rfl

end Cert.Block

end
-- ==== Proof.Array.lean ====
/-
  WHAT THE KERNEL'S RESULT ARRAY HOLDS after its four grid points: the scores of the whole batch (`Data.scores`), provided
  every code is below ten. Point `t` works on the rows `4096 t … 4096 t + 4095`: its blocks of the row arguments are those
  rows, its blocks of the tables and weights are the whole arrays, and the four blocks of results tile the result array.
-/
module

public import proofs.«01_k».proof.Proof.Data
public import proofs.«01_k».proof.Proof.Block
public import proofs.«01_k».proof.Proof.Gen.KernelIdeal.Value
public import Idealize.ShloMosaic.Lib.Pipeline.ValueKit
public import Idealize.ShloMosaic.Lib.Claim
public import Idealize.ShloMosaic.Lib.Pointwise

@[expose] public section

set_option maxRecDepth 16384

noncomputable section

namespace Cert.Array

open Idealize.ShloMosaic Idealize.ShloMosaic.TcCoe Cert.KernelIdeal Cert.KernelIdeal.Gen Cert.Tower Cert.Data
open Idealize.ShloMosaic.Pipeline (Dat)

variable (m : (ℓ : Loc nD τ sig) → Buf (Elt Ideal) ℓ) (c : Dev nD)

/-- The kernel's arguments as launched on core `c`. -/
def args : Arrays where
  hy := m ((c : Thread nD τ).loc main_arg0)
  inv := m ((c : Thread nD τ).loc main_arg1)
  re := m ((c : Thread nD τ).loc main_arg2)
  tax := m ((c : Thread nD τ).loc main_arg3)
  e0 := m ((c : Thread nD τ).loc main_arg4)
  e1 := m ((c : Thread nD τ).loc main_arg5)
  e2 := m ((c : Thread nD τ).loc main_arg6)
  e3 := m ((c : Thread nD τ).loc main_arg7)
  e4 := m ((c : Thread nD τ).loc main_arg8)
  e5 := m ((c : Thread nD τ).loc main_arg9)
  hyW := m ((c : Thread nD τ).loc main_arg10)
  hyB := m ((c : Thread nD τ).loc main_arg11)
  inv1W := m ((c : Thread nD τ).loc main_arg12)
  inv1B := m ((c : Thread nD τ).loc main_arg13)
  inv2W := m ((c : Thread nD τ).loc main_arg14)
  inv2B := m ((c : Thread nD τ).loc main_arg15)
  out1W := m ((c : Thread nD τ).loc main_arg16)
  out1B := m ((c : Thread nD τ).loc main_arg17)
  out2W := m ((c : Thread nD τ).loc main_arg18)
  out2B := m ((c : Thread nD τ).loc main_arg19)

/-- Row `r` of point `t`'s block, as a row of the batch. -/
def row (t : Fin cfg0.N) (r : Fin 4096) : Fin 16384 := ⟨t.val * 4096 + r.val, by have ht : t.val < 4 := t.isLt; omega⟩

/-- Where the blocks of the row arguments and of the result start. -/
theorem idx : ∀ t : Fin cfg0.N, win0_0.index t = ![0, t.val] ∧ win0_1.index t = ![t.val, 0] ∧ win0_2.index t = ![t.val, 0]
    ∧ win0_3.index t = ![t.val, 0] ∧ win0_20.index t = ![t.val, 0] :=
  (by decide +kernel : ∀ t : Fin grid0.N, _)

/-- The blocks of the tables and of the weights start at zero: they are the whole arrays. -/
theorem idx_whole : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0] ∧ win0_18.index t = ![0, 0]
    ∧ win0_19.index t = ![0, 0] :=
  (by decide +kernel : ∀ t : Fin grid0.N, _)

/-- What the body leaves at row `r` of point `t`'s result block is the row's scores. -/
theorem point (h : CodesBelowTen (args m c)) (t : Fin cfg0.N) (r : Fin 4096) (q : Fin 2) :
    out0_20 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (iblk m c 17 t) (iblk m c 18 t) (iblk m c 19 t) (ix2 r q) = rowScore (args m c) (row t r) q := by
  frame_out
  refine Block.score_apply (weights (args m c)) (tables (args m c)) (code (args m c) (row t r)) _ _ _ _ _ _ _ _ _ _ _ r q
    (fun o => Block.categories_apply _ _ _ _ _ _ _ _ _ _ _ _ o r
      (fun l => Block.oneHot_apply _ _ _ _ _ _ l r _ (Eq.trans ?_ (h 0 (row t r))) (Eq.trans ?_ (h 1 (row t r)))
        (Eq.trans ?_ (h 2 (row t r))) (Eq.trans ?_ (h 3 (row t r))) (Eq.trans ?_ (h 4 (row t r))) (Eq.trans ?_ (h 5 (row t r))))
      (fun a e => (Block.pad0_apply _ a e).trans (congrArg (padded 0 4 · e) (funext fun j => ?_)))
      (fun a e => (Block.pad1_apply _ a e).trans (congrArg (padded 4 5 · e) (funext fun j => ?_)))
      (fun a e => (Block.pad2_apply _ a e).trans (congrArg (padded 9 4 · e) (funext fun j => ?_)))
      (fun a e => (Block.pad3_apply _ a e).trans (congrArg (padded 13 4 · e) (funext fun j => ?_)))
      (fun a e => (Block.pad4_apply _ a e).trans (congrArg (padded 17 4 · e) (funext fun j => ?_)))
      (fun a e => (Block.pad5_apply _ a e).trans (congrArg (padded 21 5 · e) (funext fun j => ?_))) (fun e => ?_) ?_)
    (fun o => Block.inventory_apply _ _ _ _ _ _ _ o r (fun l => ?_) (fun k l => ?_) (fun k => ?_) (fun k => ?_) ?_)
    (fun k => ?_) (fun k => ?_) (fun j k => ?_) (fun j => ?_) (fun j => ?_) ?_
  all_goals
    dsimp only [args, row, weights, tables]
    blk_point [iblk, V, idx t, idx_whole t]

/-- The result array is the scores of the whole batch: the four points' blocks tile it. -/
theorem final (h : CodesBelowTen (args m c)) : (dats m 0 c).arrAt 20 cfg0.N = scores (args m c) := by
  refine (dats m 0 c).arrAt_eq_of_covers 20 _ (by decide +kernel) fun t _ y => ?_
  blk_simp
  rw [after0_20]
  obtain ⟨r, q, rfl⟩ : ∃ (r : Fin 4096) (q : Fin 2), y = ix2 r q := ⟨y 0, y 1, (eq_ix2 y)⟩
  refine (point m c h t r q).trans ?_
  have e : ((cfg0.win 20).blk t).view.emb (ix2 r q) = ix2 (row t r) q := by
    unfold row
    blk_ext [idx t]
  exact (scores_apply (args m c) (row t r) q).symm.trans (congrArg (scores (args m c)) e.symm)

end Cert.Array
-- ==== Proof.Codes.lean ====
/-
  WHAT THE PRECONDITION SAYS: `codes_in_range` holds exactly where every word of the category codes is at least 0 and below
  10, compared as signed numbers; so every word's number is below ten (`Data.CodesBelowTen`).
-/
module

public import proofs.«01_k».proof.Proof.Data
public import proofs.«01_k».proof.Pre_codes_in_range
public import Idealize.ShloMosaic.Lib.Pointwise
public import Idealize.ShloMosaic.Lib.WordCmp

@[expose] public section

noncomputable section

namespace Cert.Codes

open Idealize.ShloMosaic Cert.Data

/-- The side condition of the precondition's one broadcast. -/
theorem facts : Cert.Pre_codes_in_range.Facts where
  bcast_S_S6x16384 := by decide

/-- A word that is at least 0 and below 10, as a signed number, is below ten as an unsigned one. -/
theorem lt_ten (w : BitVec 32) (h : IntOp.andi (IntOp.cmpi .sge w 0#32) (IntOp.cmpi .slt w 10#32) = 1#1) : w.toNat < 10 := by
  rw [WordCmp.cmpi_sge_zero] at h
  by_cases hw : w.toNat < 2 ^ 31
  · rw [WordCmp.cmpi_slt_of_lt hw (by decide)] at h
    by_contra h10
    rw [show (10#32).toNat = 10 from rfl, decide_eq_false h10] at h
    exact absurd h (by cases decide (w.toNat < 2 ^ (32 - 1)) <;> decide)
  · rw [decide_eq_false hw] at h
    exact absurd h (by generalize IntOp.cmpi .slt w 10#32 = b; revert b; decide)

/-- Where the precondition's comparison holds everywhere, every code is below ten. -/
theorem below_ten (A : Arrays)
    (h : haveI := facts; Cert.Pre_codes_in_range.fn (F := Ideal) A.hy A.inv A.re A.tax A.e0 A.e1 A.e2 A.e3 A.e4 A.e5 A.hyW A.hyB
      A.inv1W A.inv1B A.inv2W A.inv2B A.out1W A.out1B A.out2W A.out2B = fun _ => 1#1) : CodesBelowTen A := by
  refine codesBelowTen_of_lt A fun k b => lt_ten _ ?_
  haveI := facts
  have hb := congrFun h (ix2 k b)
  revert hb
  pointwise [Cert.Pre_codes_in_range.fn]
  exact id

end Cert.Codes
-- ==== Proof.Lookup.lean ====
/-
  ONE TABLE LOOKUP OF THE REFERENCE. Each of its six lookups is the same composition of operations: the word is raised by
  the number of rows where it is negative, the row of that number is read, and where the number lies outside the table the
  row is replaced. `take` is that composition once, for any table; `take_apply` reads it at a code below ten: the code's row.
-/
module

public import proofs.«01_k».proof.Proof.Gen.ReferenceIdeal.Read
public import Idealize.ShloMosaic.Lib.Pointwise
public import Idealize.ShloMosaic.Lib.Pointwise.IndexBridge
public import Idealize.ShloMosaic.Lib.Routing.Ops
public import Idealize.ShloMosaic.Lib.Routing.OpsPair
public import Idealize.ShloMosaic.Lib.WordCmp

@[expose] public section

set_option maxRecDepth 16384

noncomputable section

namespace Cert.Lookup

open Idealize.ShloMosaic Cert.ReferenceIdeal Cert.ReferenceIdeal.Gen Cert.ReferenceIdeal.Read

/-- The row numbers read: the words, raised by `n` where negative. -/
def rows (n : BitVec 32) (w : IVec S16384 32) : IVec S16384x1 32 :=
  broadcastInDim S16384x1 ![0] bcast_S16384_S16384x1_0
    (select (cmpi .slt w (broadcastInDim S16384 ![] bcast_S_S16384 (constantI S_ 32 0#32)))
      (addi w (broadcastInDim S16384 ![] bcast_S_S16384 (constantI S_ 32 n))) w)

/-- Which row numbers lie between 0 and `last`. -/
def inside (last : BitVec 32) (r : IVec S16384x1 32) : IVec S16384 1 :=
  Host.reduce IntOp.andi
    (andi (cmpi .sge r (broadcastInDim S16384x1 ![] bcast_S_S16384x1 (constantI S_ 32 0#32)))
      (cmpi .sle r (broadcastInDim S16384x1 ![0, 1] bcast_S1x1_S16384x1_0_1 (broadcastInDim S1x1 ![1] bcast_S1_S1x1_1 (constantI S1 32 last)))))
    (constantI S_ 1 1#1) reducesTo_S16384x1_S16384_d1 h_S_

/-- The lookup: the rows `rows n w` of the table `x`, the other value `z` where the row number is not `inside`. -/
def take {nb B : ℕ} (d : GatherDims ⟨2, ![nb, B]⟩ S16384x1 ⟨2, ![16384, B]⟩)
    (hB : S16384.BroadcastsInDim ⟨2, ![16384, B]⟩ (![0] : Fin 1 → Fin 2)) (n last : BitVec 32) (w : IVec S16384 32)
    (x : FVec Ideal ⟨2, ![nb, B]⟩ .f32) (z : FVec Ideal ⟨2, ![16384, B]⟩ .f32) : FVec Ideal ⟨2, ![16384, B]⟩ .f32 :=
  select (broadcastInDim ⟨2, ![16384, B]⟩ ![0] hB (inside last (rows n w))) (Host.gather d x (rows n w)) z

/-- The row number read at a code below ten is the code. -/
theorem rows_apply (n : BitVec 32) (w : IVec S16384 32) (i : Fin 16384) (c : Fin 10) (h : w (ix1 i) = BitVec.ofNat 32 c.val) :
    rows n w (ix2 i 0) = BitVec.ofNat 32 c.val := by
  pointwise [rows]
  rw [h]
  exact Routing.wrap_of_lt _ _ (by rw [BitVec.toNat_ofNat]; omega)

/-- A code below ten lies inside a table of at least ten rows. -/
theorem inside_apply (last : ℕ) (hlast : 9 ≤ last ∧ last < 2 ^ 31) (r : IVec S16384x1 32) (i : Fin 16384) (c : Fin 10)
    (h : r (ix2 i 0) = BitVec.ofNat 32 c.val) : inside (BitVec.ofNat 32 last) r (ix1 i) = 1#1 := by
  pointwise [inside]
  rw [Finset.univ_unique, Finset.fold_singleton, show (default : Fin 1) = 0 from rfl, h, WordCmp.cmpi_sge_ofNat (by omega) (by omega),
    WordCmp.cmpi_sle_ofNat (by omega) (by omega), decide_eq_true (Nat.zero_le _), decide_eq_true (show c.val ≤ last by omega)]
  rfl

/-- The lookup at a code below ten reads the code's row. -/
theorem take_apply {nb B : ℕ} (d : GatherDims ⟨2, ![nb, B]⟩ S16384x1 ⟨2, ![16384, B]⟩)
    (hoff : d.offsetDims = [1]) (hcoll : d.collapsedSliceDims = [0]) (hob : d.operandBatchingDims = []) (hsim : d.startIndexMap = [0])
    (hivd : d.indexVectorDim = 1) (hB : S16384.BroadcastsInDim ⟨2, ![16384, B]⟩ (![0] : Fin 1 → Fin 2))
    (n : BitVec 32) (last : ℕ) (hlast : 9 ≤ last ∧ last < 2 ^ 31) (hnb : 10 ≤ nb ∧ nb < 2 ^ 31) (w : IVec S16384 32)
    (x : FVec Ideal ⟨2, ![nb, B]⟩ .f32) (z : FVec Ideal ⟨2, ![16384, B]⟩ .f32) (i : Fin 16384) (t : Fin B) (c : Fin 10)
    (h : w (ix1 i) = BitVec.ofNat 32 c.val) :
    take d hB n (BitVec.ofNat 32 last) w x z (ix2 i t) = x (ix2 ⟨c.val, by omega⟩ t) := by
  have hr := rows_apply n w i c h
  pointwise [take]
  rw [inside_apply last hlast _ i c hr]
  rw [ix2_eq_valueIdx] at hr ⊢
  exact Routing.gather_row d hoff hcoll hob hsim hivd x _ i t ⟨c.val, by omega⟩ hr hnb.2

/-! ## The six lookups -/

variable (x0 : IVec S6x16384 32) (i : Fin 16384) (c : Fin 10)

/-- The lookup of category 0. -/
theorem lookup0 (x : FVec Ideal S10x4 .f32) (t : Fin 4) (h : x0 (ix2 0 i) = BitVec.ofNat 32 c.val) :
    val_main_v2 (F := Ideal) x0 x (ix2 i t) = x (ix2 c t) :=
  take_apply gather_S10x4_S16384x1_S16384x4_1_0_n_n_0_1_14 rfl rfl rfl rfl rfl bcast_S16384_S16384x4_0 10#32 9 (by decide) (by decide)
    (val_main_v1 (F := Ideal) x0) x (val_main_call0_v15 (F := Ideal)) i t c (by pointwise [val_main_v1, val_main_v0]; exact h)

/-- The lookup of category 1. -/
theorem lookup1 (x : FVec Ideal S901x5 .f32) (t : Fin 5) (h : x0 (ix2 1 i) = BitVec.ofNat 32 c.val) :
    val_main_v5 (F := Ideal) x0 x (ix2 i t) = x (ix2 ⟨c.val, by omega⟩ t) :=
  take_apply gather_S901x5_S16384x1_S16384x5_1_0_n_n_0_1_15 rfl rfl rfl rfl rfl bcast_S16384_S16384x5_0 901#32 900 (by decide) (by decide)
    (val_main_v4 (F := Ideal) x0) x (val_main_call1_v15 (F := Ideal)) i t c (by pointwise [val_main_v4, val_main_v3]; exact h)

/-- The lookup of category 2. -/
theorem lookup2 (x : FVec Ideal S10x4 .f32) (t : Fin 4) (h : x0 (ix2 2 i) = BitVec.ofNat 32 c.val) :
    val_main_v8 (F := Ideal) x0 x (ix2 i t) = x (ix2 c t) :=
  take_apply gather_S10x4_S16384x1_S16384x4_1_0_n_n_0_1_14 rfl rfl rfl rfl rfl bcast_S16384_S16384x4_0 10#32 9 (by decide) (by decide)
    (val_main_v7 (F := Ideal) x0) x (val_main_call2_v15 (F := Ideal)) i t c (by pointwise [val_main_v7, val_main_v6]; exact h)

/-- The lookup of category 3. -/
theorem lookup3 (x : FVec Ideal S10x4 .f32) (t : Fin 4) (h : x0 (ix2 3 i) = BitVec.ofNat 32 c.val) :
    val_main_v11 (F := Ideal) x0 x (ix2 i t) = x (ix2 c t) :=
  take_apply gather_S10x4_S16384x1_S16384x4_1_0_n_n_0_1_14 rfl rfl rfl rfl rfl bcast_S16384_S16384x4_0 10#32 9 (by decide) (by decide)
    (val_main_v10 (F := Ideal) x0) x (val_main_call3_v15 (F := Ideal)) i t c (by pointwise [val_main_v10, val_main_v9]; exact h)

/-- The lookup of category 4. -/
theorem lookup4 (x : FVec Ideal S100x4 .f32) (t : Fin 4) (h : x0 (ix2 4 i) = BitVec.ofNat 32 c.val) :
    val_main_v14 (F := Ideal) x0 x (ix2 i t) = x (ix2 ⟨c.val, by omega⟩ t) :=
  take_apply gather_S100x4_S16384x1_S16384x4_1_0_n_n_0_1_14 rfl rfl rfl rfl rfl bcast_S16384_S16384x4_0 100#32 99 (by decide) (by decide)
    (val_main_v13 (F := Ideal) x0) x (val_main_call4_v15 (F := Ideal)) i t c (by pointwise [val_main_v13, val_main_v12]; exact h)

/-- The lookup of category 5. -/
theorem lookup5 (x : FVec Ideal S20x5 .f32) (t : Fin 5) (h : x0 (ix2 5 i) = BitVec.ofNat 32 c.val) :
    val_main_v17 (F := Ideal) x0 x (ix2 i t) = x (ix2 ⟨c.val, by omega⟩ t) :=
  take_apply gather_S20x5_S16384x1_S16384x5_1_0_n_n_0_1_15 rfl rfl rfl rfl rfl bcast_S16384_S16384x5_0 20#32 19 (by decide) (by decide)
    (val_main_v16 (F := Ideal) x0) x (val_main_call5_v15 (F := Ideal)) i t c (by pointwise [val_main_v16, val_main_v15]; exact h)

end Cert.Lookup
-- ==== Proof.Reference.lean ====
/-
  WHAT THE REFERENCE COMPUTES: its value, read at row `i` of the batch, is the row's scores (`Data.rowScore`), provided every
  code is below ten. Its value is read part by part: the six lookups side by side, the category features, the inventory
  features, the joined features and the scores.
-/
module

public import proofs.«01_k».proof.Proof.Data
public import proofs.«01_k».proof.Proof.Lookup

@[expose] public section

set_option maxRecDepth 16384

noncomputable section

namespace Cert.Reference

open Idealize.ShloMosaic Cert.ReferenceIdeal Cert.ReferenceIdeal.Gen Cert.ReferenceIdeal.Read Cert.Tower Cert.Data Cert.Lookup

variable (A : Arrays) (h : CodesBelowTen A) (i : Fin 16384)

include h in
/-- The six lookups side by side are the row's embedding. -/
theorem embedding_apply (t : Fin 26) :
    val_main_v18 (F := Ideal) A.hy A.e0 A.e1 A.e2 A.e3 A.e4 A.e5 (ix2 i t) = embedding (tables A) (code A i) t := by
  pointwise [val_main_v18]
  simp only [lookup0 A.hy i _ A.e0 _ (h 0 i), lookup1 A.hy i _ A.e1 _ (h 1 i), lookup2 A.hy i _ A.e2 _ (h 2 i),
    lookup3 A.hy i _ A.e3 _ (h 3 i), lookup4 A.hy i _ A.e4 _ (h 4 i), lookup5 A.hy i _ A.e5 _ (h 5 i)]
  rfl

include h in
/-- The category features. -/
theorem categories_apply (o : Fin 10) :
    val_main_v24 (F := Ideal) A.hy A.e0 A.e1 A.e2 A.e3 A.e4 A.e5 A.hyW A.hyB (ix2 i o)
      = categories (weights A) (tables A) (code A i) o := by
  pointwise [val_main_v24, val_main_v23, val_main_v22, val_main_v21, val_main_v20, val_main_v19, val_main_call6_v0, val_main_call6_cst]
  simp only [embedding_apply A h i]
  rfl

/-- The inventory features. -/
theorem inventory_apply (o : Fin 32) :
    val_main_v41 (F := Ideal) A.inv A.inv1W A.inv1B A.inv2W A.inv2B (ix2 i o) = inventory (weights A) (fun l => A.inv (ix2 i l)) o := by
  pointwise [val_main_v41, val_main_v40, val_main_v39, val_main_v38, val_main_v37, val_main_v36, val_main_v35, val_main_v34,
    val_main_v33, val_main_v32, val_main_v31, val_main_v30, val_main_v29, val_main_v28, val_main_v27, val_main_v26, val_main_v25,
    val_main_call7_v0, val_main_call7_cst, val_main_cst, val_main_cst_0]
  rfl

include h in
/-- The joined features. -/
theorem joined_apply (k : Fin 106) :
    val_main_v42 (F := Ideal) A.hy A.inv A.re A.tax A.e0 A.e1 A.e2 A.e3 A.e4 A.e5 A.hyW A.hyB A.inv1W A.inv1B A.inv2W A.inv2B (ix2 i k)
      = joined (fun k => A.re (ix2 i k)) (fun k => A.tax (ix2 i k)) (categories (weights A) (tables A) (code A i))
          (inventory (weights A) (fun l => A.inv (ix2 i l))) k := by
  pointwise [val_main_v42]
  simp only [categories_apply A h i, inventory_apply A i]
  rfl

include h in
/-- The scores of a row. -/
theorem score_apply (q : Fin 2) :
    val_main_v53 (F := Ideal) A.hy A.inv A.re A.tax A.e0 A.e1 A.e2 A.e3 A.e4 A.e5 A.hyW A.hyB A.inv1W A.inv1B A.inv2W A.inv2B
      A.out1W A.out1B A.out2W A.out2B (ix2 i q) = rowScore A i q := by
  pointwise [val_main_v53, val_main_v52, val_main_v51, val_main_v50, val_main_v49, val_main_v48, val_main_v47, val_main_v46,
    val_main_v45, val_main_v44, val_main_v43, val_main_call8_v0, val_main_call8_cst]
  simp only [joined_apply A h i]
  rfl

include h in
/-- The reference's value is the scores of the whole batch. -/
theorem value :
    val_main_v53 (F := Ideal) A.hy A.inv A.re A.tax A.e0 A.e1 A.e2 A.e3 A.e4 A.e5 A.hyW A.hyB A.inv1W A.inv1B A.inv2W A.inv2B
      A.out1W A.out1B A.out2W A.out2B = scores A := by
  funext j
  rw [eq_ix2 j]
  exact (score_apply A h (j 0) (j 1)).trans (scores_apply A (j 0) (j 1)).symm

end Cert.Reference
-- ==== Proof.lean ====
/-
  THE PROOF OF THE CLAIM. Both programs compute the scores of the whole batch, `Data.scores`:

    * the kernel, by `Proof/Array.lean` (from what one block computes, `Proof/Block.lean`);
    * the reference, by `Proof/Reference.lean` (from its table lookups, `Proof/Lookup.lean`);
    * the mathematics by which the two arrangements agree is in `Proof/Tower.lean`, the precondition is read in
      `Proof/Codes.lean`.

  The frames: the kernel's and its idealization's are the generated runs; the reference's is read off its generated run.
  No operation was rewritten between the kernel and its idealization, so that claim has nothing to prove.
-/
module

public import proofs.«01_k».proof.Defs
public import proofs.«01_k».proof.Proof.Array
public import proofs.«01_k».proof.Proof.Codes
public import proofs.«01_k».proof.Proof.Reference
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem Cert.Data

/-- The reference runs, its arguments end unchanged, and its counters at zero: it has none. -/
theorem reference_quiescent : quiescent_ReferenceIdeal := fun m g _ =>
  (θ_run ReferenceIdeal.defs _ _).mono
    (fun r h => ⟨fun c => (h c).2, sem_eq_zero_of_no_sems (by decide) r.2⟩) (ReferenceIdeal.Value.run (F := Ideal) m g)

/-- The reference's arguments as launched on core `c`. -/
def referenceArgs (m : (ℓ : Loc ReferenceIdeal.nD ReferenceIdeal.τ ReferenceIdeal.sig) → Buf (Elt Ideal) ℓ)
    (c : Dev ReferenceIdeal.nD) : Arrays where
  hy := m ((c : Thread ReferenceIdeal.nD ReferenceIdeal.τ).loc ReferenceIdeal.main_arg0)
  inv := m ((c : Thread ReferenceIdeal.nD ReferenceIdeal.τ).loc ReferenceIdeal.main_arg1)
  re := m ((c : Thread ReferenceIdeal.nD ReferenceIdeal.τ).loc ReferenceIdeal.main_arg2)
  tax := m ((c : Thread ReferenceIdeal.nD ReferenceIdeal.τ).loc ReferenceIdeal.main_arg3)
  e0 := m ((c : Thread ReferenceIdeal.nD ReferenceIdeal.τ).loc ReferenceIdeal.main_arg4)
  e1 := m ((c : Thread ReferenceIdeal.nD ReferenceIdeal.τ).loc ReferenceIdeal.main_arg5)
  e2 := m ((c : Thread ReferenceIdeal.nD ReferenceIdeal.τ).loc ReferenceIdeal.main_arg6)
  e3 := m ((c : Thread ReferenceIdeal.nD ReferenceIdeal.τ).loc ReferenceIdeal.main_arg7)
  e4 := m ((c : Thread ReferenceIdeal.nD ReferenceIdeal.τ).loc ReferenceIdeal.main_arg8)
  e5 := m ((c : Thread ReferenceIdeal.nD ReferenceIdeal.τ).loc ReferenceIdeal.main_arg9)
  hyW := m ((c : Thread ReferenceIdeal.nD ReferenceIdeal.τ).loc ReferenceIdeal.main_arg10)
  hyB := m ((c : Thread ReferenceIdeal.nD ReferenceIdeal.τ).loc ReferenceIdeal.main_arg11)
  inv1W := m ((c : Thread ReferenceIdeal.nD ReferenceIdeal.τ).loc ReferenceIdeal.main_arg12)
  inv1B := m ((c : Thread ReferenceIdeal.nD ReferenceIdeal.τ).loc ReferenceIdeal.main_arg13)
  inv2W := m ((c : Thread ReferenceIdeal.nD ReferenceIdeal.τ).loc ReferenceIdeal.main_arg14)
  inv2B := m ((c : Thread ReferenceIdeal.nD ReferenceIdeal.τ).loc ReferenceIdeal.main_arg15)
  out1W := m ((c : Thread ReferenceIdeal.nD ReferenceIdeal.τ).loc ReferenceIdeal.main_arg16)
  out1B := m ((c : Thread ReferenceIdeal.nD ReferenceIdeal.τ).loc ReferenceIdeal.main_arg17)
  out2W := m ((c : Thread ReferenceIdeal.nD ReferenceIdeal.τ).loc ReferenceIdeal.main_arg18)
  out2B := m ((c : Thread ReferenceIdeal.nD ReferenceIdeal.τ).loc ReferenceIdeal.main_arg19)

/-- From equal arguments whose codes are below ten, the idealized kernel and the reference end with equal results: the
    scores of the whole batch. -/
theorem algebraic : haveI := Codes.facts; algebraic_KernelIdeal_ReferenceIdeal_pre_codes_in_range := by
  intro m g m' g' hpre hagree
  have hk : ∀ c, CodesBelowTen (Cert.Array.args m c) := fun c => Codes.below_ten (Cert.Array.args m c) (hpre c)
  refine ⟨fun c => scores (Cert.Array.args m c), ?_, ?_⟩
  · exact (θ_run KernelIdeal.defs _ _).mono (fun r h c => ⟨(h c).1.trans (Cert.Array.final m c (hk c)), (h c).2⟩)
      (KernelIdeal.Value.run_blocks (F := Ideal) m g)
  · refine (θ_run ReferenceIdeal.defs _ _).mono (fun r h c => ⟨(h c).1.trans ?_, (h c).2⟩) (ReferenceIdeal.Value.run (F := Ideal) m' g')
    have e : referenceArgs m' c = Cert.Array.args m c := by
      obtain ⟨h0, h1, h2, h3, h4, h5, h6, h7, h8, h9, h10, h11, h12, h13, h14, h15, h16, h17, h18, h19⟩ := hagree c
      simp only [referenceArgs, Cert.Array.args, h0, h1, h2, h3, h4, h5, h6, h7, h8, h9, h10, h11, h12, h13, h14, h15, h16, h17, h18, h19]
    refine (ReferenceIdeal.Read.val_main_v53_eq (F := Ideal) (StableHlo.launchContents m' c)).trans ?_
    exact (Reference.value (referenceArgs m' c) (e ▸ hk c)).trans (congrArg scores e)

/-- The claim: the programs' side conditions, the frames, the idealization and the equality of results. -/
theorem claim : Cert.Claim := ⟨Kernel.Gen.facts, KernelIdeal.Gen.facts, ReferenceIdeal.Gen.facts, Codes.facts,
  fun m g _ => Kernel.Gen.frame m g, fun m g _ => KernelIdeal.Gen.frame m g, fun m g _ => KernelIdeal.Gen.frame m g,
  reference_quiescent, fun m g _ => reference_quiescent m g trivial, trivial, algebraic⟩

end Cert.Proof

end
